-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_step [hPre_in_step : Cert.Pre_in_step.Facts] (m : (ℓ : Loc Cert.KernelIdeal.nD Cert.KernelIdeal.τ Cert.KernelIdeal.sig) → Buf (Elt Ideal) ℓ) : Prop :=
  ∀ c : Dev Cert.KernelIdeal.nD,
    (Cert.Pre_in_step.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).1 = (fun _ => 1#1)
    ∧ (Cert.Pre_in_step.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.1 = (fun _ => 1#1)
    ∧ (Cert.Pre_in_step.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.1 = (fun _ => 1#1)
    ∧ (Cert.Pre_in_step.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_step [hPre_in_step : Cert.Pre_in_step.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_step.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).1 = (fun _ => 1#1)
    ∧ (Cert.Pre_in_step.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.1 = (fun _ => 1#1)
    ∧ (Cert.Pre_in_step.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.1 = (fun _ => 1#1)
    ∧ (Cert.Pre_in_step.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_in_step [hKernelIdeal : Cert.KernelIdeal.Facts] [hPre_in_step : Cert.Pre_in_step.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_step m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_in_step [hReferenceIdeal : Cert.ReferenceIdeal.Facts] [hPre_in_step : Cert.Pre_in_step.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_step m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  IdealRules.named_const.Statement Cert.KernelIdeal.κ "log_step" .f32 0xBD135D8E#32 (((-(Real.log 10000)) * 256⁻¹ : ℝ) : EReal)

def algebraic_KernelIdeal_ReferenceIdeal_pre_in_step [hKernelIdeal : Cert.KernelIdeal.Facts] [hReferenceIdeal : Cert.ReferenceIdeal.Facts] [hPre_in_step : Cert.Pre_in_step.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_step m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v75) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_in_step : Cert.Pre_in_step.Facts),
    quiescent_Kernel (hKernel := hKernel)
    ∧ quiescent_KernelIdeal (hKernelIdeal := hKernelIdeal)
    ∧ quiescent_KernelIdeal_pre_in_step (hKernelIdeal := hKernelIdeal) (hPre_in_step := hPre_in_step)
    ∧ quiescent_ReferenceIdeal (hReferenceIdeal := hReferenceIdeal)
    ∧ quiescent_ReferenceIdeal_pre_in_step (hReferenceIdeal := hReferenceIdeal) (hPre_in_step := hPre_in_step)
    ∧ preserves_Kernel_KernelIdeal
    ∧ algebraic_KernelIdeal_ReferenceIdeal_pre_in_step (hKernelIdeal := hKernelIdeal) (hReferenceIdeal := hReferenceIdeal) (hPre_in_step := hPre_in_step)
-- ==== Pre_in_step.lean ====
abbrev S4x1024x256 : Shape := ⟨3, ![4, 1024, 256]⟩
abbrev S4x2048x1 : Shape := ⟨3, ![4, 2048, 1]⟩
abbrev S4x2048 : Shape := ⟨2, ![4, 2048]⟩
abbrev S4x1024 : Shape := ⟨2, ![4, 1024]⟩
abbrev S1x256 : Shape := ⟨2, ![1, 256]⟩
abbrev S256 : Shape := ⟨1, ![256]⟩
abbrev S256x256 : Shape := ⟨2, ![256, 256]⟩
abbrev S2x256 : Shape := ⟨2, ![2, 256]⟩
abbrev S4x2047 : Shape := ⟨2, ![4, 2047]⟩
abbrev S4x1 : Shape := ⟨2, ![4, 1]⟩
abbrev S_ : Shape := ⟨0, ![]⟩

class Facts : Prop where
  slices_S4x2048_S4x2047_0_1 : S4x2048.Slices ![0, 1] S4x2047
  slices_S4x1024_S4x1_0_0 : S4x1024.Slices ![0, 0] S4x1
  bcast_S4x1_S4x2047_0_1 : S4x1.BroadcastsInDim S4x2047 (![0, 1] : Fin 2 → Fin S4x2047.rank)
  bcast_S_S4x2048x1 : S_.BroadcastsInDim S4x2048x1 (![] : Fin 0 → Fin S4x2048x1.rank)
  bcast_S_S256x256 : S_.BroadcastsInDim S256x256 (![] : Fin 0 → Fin S256x256.rank)
  slices_S2x256_S1x256_0_0 : S2x256.Slices ![0, 0] S1x256
  shapeCasts_S1x256_S256 : S1x256.ShapeCasts S256
  bcast_S_S256 : S_.BroadcastsInDim S256 (![] : Fin 0 → Fin S256.rank)

variable [Facts]

def fn {F : FTy → Type} [FloatOps F] (main_arg0 : FVec F S4x1024x256 .f32) (main_arg1 : FVec F S4x2048x1 .f32) (main_arg2 : IVec S4x2048x1 32) (main_arg3 : IVec S4x2048 32) (main_arg4 : IVec S4x1024 32) (main_arg5 : FVec F S1x256 .f32) (main_arg6 : FVec F S256 .f32) (main_arg7 : FVec F S256x256 .f32) (main_arg8 : FVec F S256 .f32) (main_arg9 : FVec F S2x256 .f32) : IVec S4x2047 1 × IVec S4x2048x1 1 × IVec S256x256 1 × IVec S256 1 :=
  let main_v0 : IVec S4x2047 32 := (extractStridedSlice S4x2047 ![0, 1] · slices_S4x2048_S4x2047_0_1) main_arg3
  let main_v1 : IVec S4x1 32 := (extractStridedSlice S4x1 ![0, 0] · slices_S4x1024_S4x1_0_0) main_arg4
  let main_v2 : IVec S4x2047 32 := broadcastInDim S4x2047 ![0, 1] bcast_S4x1_S4x2047_0_1 main_v1
  let main_v3 : IVec S4x2047 1 := cmpi .eq main_v0 main_v2
  let main_c : IVec S_ 32 := constantI S_ 32 0#32
  let main_v4 : IVec S4x2048x1 32 := broadcastInDim S4x2048x1 ![] bcast_S_S4x2048x1 main_c
  let main_v5 : IVec S4x2048x1 1 := cmpi .eq main_arg2 main_v4
  let main_c_0 : IVec S_ 32 := constantI S_ 32 1#32
  let main_v6 : IVec S4x2048x1 32 := broadcastInDim S4x2048x1 ![] bcast_S_S4x2048x1 main_c_0
  let main_v7 : IVec S4x2048x1 1 := cmpi .eq main_arg2 main_v6
  let main_v8 : IVec S4x2048x1 1 := ori main_v5 main_v7
  let main_v9 : FVec F S256x256 .f32 := Host.absf main_arg7
  let main_cst : FVec F S_ .f32 := constant S_ .f32 0x7F800000#32
  let main_v10 : FVec F S256x256 .f32 := broadcastInDim S256x256 ![] bcast_S_S256x256 main_cst
  let main_v11 : IVec S256x256 1 := cmpf .olt main_v9 main_v10
  let main_v12 : FVec F S1x256 .f32 := (extractStridedSlice S1x256 ![0, 0] · slices_S2x256_S1x256_0_0) main_arg9
  let main_v13 : FVec F S256 .f32 := shapeCast S256 main_v12 shapeCasts_S1x256_S256
  let main_v14 : FVec F S256 .f32 := Host.absf main_v13
  let main_cst_1 : FVec F S_ .f32 := constant S_ .f32 0x7F800000#32
  let main_v15 : FVec F S256 .f32 := broadcastInDim S256 ![] bcast_S_S256 main_cst_1
  let main_v16 : IVec S256 1 := cmpf .olt main_v14 main_v15
  (main_v3, main_v8, main_v11, main_v16)
-- ==== Kernel.lean ====
abbrev S4x1024x256 : Shape := ⟨3, ![4, 1024, 256]⟩
abbrev S4x2048x1 : Shape := ⟨3, ![4, 2048, 1]⟩
abbrev S4x2048 : Shape := ⟨2, ![4, 2048]⟩
abbrev S4x1024 : Shape := ⟨2, ![4, 1024]⟩
abbrev S1x256 : Shape := ⟨2, ![1, 256]⟩
abbrev S256 : Shape := ⟨1, ![256]⟩
abbrev S256x256 : Shape := ⟨2, ![256, 256]⟩
abbrev S2x256 : Shape := ⟨2, ![2, 256]⟩
abbrev S4x1x256 : Shape := ⟨3, ![4, 1, 256]⟩
abbrev S4x256 : Shape := ⟨2, ![4, 256]⟩
abbrev S4x2048x256 : Shape := ⟨3, ![4, 2048, 256]⟩
abbrev S4x256x256 : Shape := ⟨3, ![4, 256, 256]⟩
abbrev S1x256x256 : Shape := ⟨3, ![1, 256, 256]⟩
abbrev S4x256x1 : Shape := ⟨3, ![4, 256, 1]⟩
abbrev S1x1x256 : Shape := ⟨3, ![1, 1, 256]⟩

abbrev nBuf : Space → Nat
  | .hbm => 17
  | .vmem => 12
  | .smem => 0
  | _ => 0

abbrev bufTy : (tb : Table) → Fin (tcTables nBuf tb) → BufTy
  | .hbm, ⟨0, _⟩ => ⟨S4x1024x256, .f32⟩
  | .hbm, ⟨1, _⟩ => ⟨S4x2048x1, .f32⟩
  | .hbm, ⟨2, _⟩ => ⟨S4x2048x1, .i32⟩
  | .hbm, ⟨3, _⟩ => ⟨S4x2048, .i32⟩
  | .hbm, ⟨4, _⟩ => ⟨S4x1024, .i32⟩
  | .hbm, ⟨5, _⟩ => ⟨S1x256, .f32⟩
  | .hbm, ⟨6, _⟩ => ⟨S256, .f32⟩
  | .hbm, ⟨7, _⟩ => ⟨S256x256, .f32⟩
  | .hbm, ⟨8, _⟩ => ⟨S256, .f32⟩
  | .hbm, ⟨9, _⟩ => ⟨S2x256, .f32⟩
  | .hbm, ⟨10, _⟩ => ⟨S4x1x256, .f32⟩
  | .hbm, ⟨11, _⟩ => ⟨S4x256, .f32⟩
  | .hbm, ⟨12, _⟩ => ⟨S4x2048, .f32⟩
  | .hbm, ⟨13, _⟩ => ⟨S4x2048, .i32⟩
  | .hbm, ⟨14, _⟩ => ⟨S1x256, .f32⟩
  | .hbm, ⟨15, _⟩ => ⟨S1x256, .f32⟩
  | .hbm, ⟨16, _⟩ => ⟨S4x2048x256, .f32⟩
  | .local _ .vmem, ⟨0, _⟩ => ⟨S4x256, .f32⟩
  | .local _ .vmem, ⟨1, _⟩ => ⟨S4x256, .f32⟩
  | .local _ .vmem, ⟨2, _⟩ => ⟨S4x256, .f32⟩
  | .local _ .vmem, ⟨3, _⟩ => ⟨S4x256, .i32⟩
  | .local _ .vmem, ⟨4, _⟩ => ⟨S4x256, .i32⟩
  | .local _ .vmem, ⟨5, _⟩ => ⟨S1x256, .f32⟩
  | .local _ .vmem, ⟨6, _⟩ => ⟨S1x256, .f32⟩
  | .local _ .vmem, ⟨7, _⟩ => ⟨S256x256, .f32⟩
  | .local _ .vmem, ⟨8, _⟩ => ⟨S1x256, .f32⟩
  | .local _ .vmem, ⟨9, _⟩ => ⟨S2x256, .f32⟩
  | .local _ .vmem, ⟨10, _⟩ => ⟨S4x256x256, .f32⟩
  | .local _ .vmem, ⟨11, _⟩ => ⟨S4x256x256, .f32⟩
  | _, _ => ⟨S4x1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S4x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x256 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S4x256x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== KernelIdeal.lean ====
variable {F : FTy → Type} [FloatOps F] [Named F]
def κ : String → Option EReal := fun
  | "log_step" => some (((-(Real.log 10000)) * 256⁻¹ : ℝ) : EReal)
  | _ => none
-- ==== ReferenceIdeal.lean ====
abbrev S4x1024x256 : Shape := ⟨3, ![4, 1024, 256]⟩
abbrev S4x2048x1 : Shape := ⟨3, ![4, 2048, 1]⟩
abbrev S4x2048 : Shape := ⟨2, ![4, 2048]⟩
abbrev S4x1024 : Shape := ⟨2, ![4, 1024]⟩
abbrev S1x256 : Shape := ⟨2, ![1, 256]⟩
abbrev S256 : Shape := ⟨1, ![256]⟩
abbrev S256x256 : Shape := ⟨2, ![256, 256]⟩
abbrev S2x256 : Shape := ⟨2, ![2, 256]⟩
abbrev S4 : Shape := ⟨1, ![4]⟩
abbrev S_ : Shape := ⟨0, ![]⟩
abbrev S4x1 : Shape := ⟨2, ![4, 1]⟩
abbrev S4x2047 : Shape := ⟨2, ![4, 2047]⟩
abbrev S2047x4 : Shape := ⟨2, ![2047, 4]⟩
abbrev S1x4 : Shape := ⟨2, ![1, 4]⟩
abbrev S4x2 : Shape := ⟨2, ![4, 2]⟩
abbrev S2048x4 : Shape := ⟨2, ![2048, 4]⟩
abbrev S4x2048x2 : Shape := ⟨3, ![4, 2048, 2]⟩
abbrev S4x2048x256 : Shape := ⟨3, ![4, 2048, 256]⟩
abbrev S1x1x256 : Shape := ⟨3, ![1, 1, 256]⟩
abbrev S2048 : Shape := ⟨1, ![2048]⟩
abbrev S2048x1 : Shape := ⟨2, ![2048, 1]⟩
abbrev S128 : Shape := ⟨1, ![128]⟩
abbrev S1x128 : Shape := ⟨2, ![1, 128]⟩
abbrev S2048x128 : Shape := ⟨2, ![2048, 128]⟩
abbrev S2048x128x1 : Shape := ⟨3, ![2048, 128, 1]⟩
abbrev S2048x128x2 : Shape := ⟨3, ![2048, 128, 2]⟩
abbrev S2048x256 : Shape := ⟨2, ![2048, 256]⟩
abbrev S2048x4x256 : Shape := ⟨3, ![2048, 4, 256]⟩
abbrev S2048x1x256 : Shape := ⟨3, ![2048, 1, 256]⟩

abbrev nBuf : Space → Nat
  | .hbm => 140
  | .vmem => 0
  | .smem => 0
  | _ => 0

abbrev hbmTy0_0 (i : Nat) : BufTy := match i % 128 with
  | 0 => ⟨S4x1024x256, .f32⟩
  | 1 => ⟨S4x2048x1, .f32⟩
  | 2 => ⟨S4x2048x1, .i32⟩
  | 3 => ⟨S4x2048, .i32⟩
  | 4 => ⟨S4x1024, .i32⟩
  | 5 => ⟨S1x256, .f32⟩
  | 6 => ⟨S256, .f32⟩
  | 7 => ⟨S256x256, .f32⟩
  | 8 => ⟨S256, .f32⟩
  | 9 => ⟨S2x256, .f32⟩
  | 10 => ⟨S4, .i32⟩
  | 11 => ⟨S_, .i32⟩
  | 12 => ⟨S4, .i32⟩
  | 13 => ⟨S4x1, .i32⟩
  | 14 => ⟨S4, .i32⟩
  | 15 => ⟨S4x2047, .i32⟩
  | 16 => ⟨S2047x4, .i32⟩
  | 17 => ⟨S_, .i32⟩
  | 18 => ⟨S2047x4, .i32⟩
  | 19 => ⟨S_, .i32⟩
  | 20 => ⟨S2047x4, .i32⟩
  | 21 => ⟨S4x1024, .i32⟩
  | 22 => ⟨S_, .i32⟩
  | 23 => ⟨S4, .i32⟩
  | 24 => ⟨S4, .i32⟩
  | 25 => ⟨S2047x4, .i32⟩
  | 26 => ⟨S_, .i32⟩
  | 27 => ⟨S_, .i1⟩
  | 28 => ⟨S_, .i32⟩
  | 29 => ⟨S1x4, .i32⟩
  | 30 => ⟨S4, .i32⟩
  | 31 => ⟨S4, .i1⟩
  | 32 => ⟨S_, .i32⟩
  | 33 => ⟨S4, .i32⟩
  | 34 => ⟨S4, .i32⟩
  | 35 => ⟨S4, .i32⟩
  | 36 => ⟨S4, .i32⟩
  | 37 => ⟨S_, .i32⟩
  | 38 => ⟨S4, .i32⟩
  | 39 => ⟨S4, .i1⟩
  | 40 => ⟨S_, .i32⟩
  | 41 => ⟨S4, .i32⟩
  | 42 => ⟨S4, .i32⟩
  | 43 => ⟨S4, .i32⟩
  | 44 => ⟨S_, .i32⟩
  | 45 => ⟨S4, .i32⟩
  | 46 => ⟨S4, .i1⟩
  | 47 => ⟨S_, .i32⟩
  | 48 => ⟨S4, .i32⟩
  | 49 => ⟨S4, .i32⟩
  | 50 => ⟨S4, .i32⟩
  | 51 => ⟨S4x1, .i32⟩
  | 52 => ⟨S4x1, .i32⟩
  | 53 => ⟨S4x2, .i32⟩
  | 54 => ⟨S4, .i32⟩
  | 55 => ⟨S4, .i32⟩
  | 56 => ⟨S1x4, .i32⟩
  | 57 => ⟨S_, .i32⟩
  | 58 => ⟨S2047x4, .i32⟩
  | 59 => ⟨S_, .i32⟩
  | 60 => ⟨S_, .i32⟩
  | 61 => ⟨S_, .i32⟩
  | 62 => ⟨S1x4, .i32⟩
  | 63 => ⟨S2048x4, .i32⟩
  | 64 => ⟨S4x2048, .i32⟩
  | 65 => ⟨S4, .i32⟩
  | 66 => ⟨S4x1, .i32⟩
  | 67 => ⟨S_, .i32⟩
  | 68 => ⟨S4x1, .i32⟩
  | 69 => ⟨S4x1, .i1⟩
  | 70 => ⟨S_, .i32⟩
  | 71 => ⟨S4x1, .i32⟩
  | 72 => ⟨S4x1, .i32⟩
  | 73 => ⟨S4x1, .i32⟩
  | 74 => ⟨S_, .i32⟩
  | 75 => ⟨S4x2048, .i32⟩
  | 76 => ⟨S4x2048, .i1⟩
  | 77 => ⟨S_, .i32⟩
  | 78 => ⟨S4x2048, .i32⟩
  | 79 => ⟨S4x2048, .i32⟩
  | 80 => ⟨S4x2048, .i32⟩
  | 81 => ⟨S4x2048, .i32⟩
  | 82 => ⟨S4x2048x1, .i32⟩
  | 83 => ⟨S4x2048x1, .i32⟩
  | 84 => ⟨S4x2048x2, .i32⟩
  | 85 => ⟨S4x2048x256, .f32⟩
  | 86 => ⟨S4x2048x256, .f32⟩
  | 87 => ⟨S1x1x256, .f32⟩
  | 88 => ⟨S4x2048x256, .f32⟩
  | 89 => ⟨S4x2048x256, .f32⟩
  | 90 => ⟨S4x2048x256, .f32⟩
  | 91 => ⟨S4x2048, .i32⟩
  | 92 => ⟨S_, .i32⟩
  | 93 => ⟨S4x2048, .i32⟩
  | 94 => ⟨S4x2048, .i1⟩
  | 95 => ⟨S_, .i32⟩
  | 96 => ⟨S4x2048, .i32⟩
  | 97 => ⟨S4x2048, .i32⟩
  | 98 => ⟨S4x2048, .i32⟩
  | 99 => ⟨S4x2048x1, .i32⟩
  | 100 => ⟨S4x2048x256, .f32⟩
  | 101 => ⟨S4x2048x256, .f32⟩
  | 102 => ⟨S2048, .f32⟩
  | 103 => ⟨S2048x1, .f32⟩
  | 104 => ⟨S128, .f32⟩
  | 105 => ⟨S_, .f32⟩
  | 106 => ⟨S128, .f32⟩
  | 107 => ⟨S128, .f32⟩
  | 108 => ⟨S_, .f32⟩
  | 109 => ⟨S128, .f32⟩
  | 110 => ⟨S128, .f32⟩
  | 111 => ⟨S_, .f32⟩
  | 112 => ⟨S_, .f32⟩
  | 113 => ⟨S_, .f32⟩
  | 114 => ⟨S128, .f32⟩
  | 115 => ⟨S128, .f32⟩
  | 116 => ⟨S_, .f32⟩
  | 117 => ⟨S128, .f32⟩
  | 118 => ⟨S128, .f32⟩
  | 119 => ⟨S128, .f32⟩
  | 120 => ⟨S1x128, .f32⟩
  | 121 => ⟨S2048x128, .f32⟩
  | 122 => ⟨S2048x128, .f32⟩
  | 123 => ⟨S2048x128, .f32⟩
  | 124 => ⟨S2048x128, .f32⟩
  | 125 => ⟨S2048x128, .f32⟩
  | 126 => ⟨S2048x128x1, .f32⟩
  | 127 => ⟨S2048x128x1, .f32⟩
  | _ => ⟨S4x1024x256, .f32⟩

abbrev hbmTy0_1 (i : Nat) : BufTy := match i % 128 with
  | 0 => ⟨S2048x128x2, .f32⟩
  | 1 => ⟨S2048x256, .f32⟩
  | 2 => ⟨S2048x4x256, .f32⟩
  | 3 => ⟨S2048x1x256, .f32⟩
  | 4 => ⟨S2048x4x256, .f32⟩
  | 5 => ⟨S2048x4x256, .f32⟩
  | 6 => ⟨S4x2048x256, .f32⟩
  | 7 => ⟨S4x2048x256, .f32⟩
  | 8 => ⟨S1x1x256, .f32⟩
  | 9 => ⟨S4x2048x256, .f32⟩
  | 10 => ⟨S4x2048x256, .f32⟩
  | 11 => ⟨S4x2048x256, .f32⟩
  | _ => ⟨S4x1024x256, .f32⟩

abbrev hbmTy (i : Nat) : BufTy := match i / 128 with
  | 0 => hbmTy0_0 i
  | 1 => hbmTy0_1 i
  | _ => ⟨S4x1024x256, .f32⟩

abbrev bufTy : (tb : Table) → Fin (tcTables nBuf tb) → BufTy
  | .hbm, ⟨i, _⟩ => hbmTy i
  | _, _ => ⟨S4x1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_c : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_c_1 : Ref sig .tc := ⟨.hbm, 19, rfl⟩
abbrev main_v7_0 : Ref sig .tc := ⟨.hbm, 20, rfl⟩
abbrev main_v7_1 : Ref sig .tc := ⟨.hbm, 21, rfl⟩
abbrev main_v7_2 : Ref sig .tc := ⟨.hbm, 22, rfl⟩
abbrev main_v7_3 : Ref sig .tc := ⟨.hbm, 23, rfl⟩
abbrev main_v7_4 : Ref sig .tc := ⟨.hbm, 24, rfl⟩
abbrev main_v7_5 : Ref sig .tc := ⟨.hbm, 25, rfl⟩
abbrev main_while0c_c_17 : Ref sig .tc := ⟨.hbm, 26, rfl⟩
abbrev main_while0c_v76 : Ref sig .tc := ⟨.hbm, 27, rfl⟩
abbrev main_while0b_call0_c : Ref sig .tc := ⟨.hbm, 28, rfl⟩
abbrev main_while0b_call0_v0 : Ref sig .tc := ⟨.hbm, 29, rfl⟩
abbrev main_while0b_v76 : Ref sig .tc := ⟨.hbm, 30, rfl⟩
abbrev main_while0b_v77 : Ref sig .tc := ⟨.hbm, 31, rfl⟩
abbrev main_while0b_c_17 : Ref sig .tc := ⟨.hbm, 32, rfl⟩
abbrev main_while0b_v78 : Ref sig .tc := ⟨.hbm, 33, rfl⟩
abbrev main_while0b_v79 : Ref sig .tc := ⟨.hbm, 34, rfl⟩
abbrev main_while0b_v80 : Ref sig .tc := ⟨.hbm, 35, rfl⟩
abbrev main_while0b_v81 : Ref sig .tc := ⟨.hbm, 36, rfl⟩
abbrev main_while0b_c_18 : Ref sig .tc := ⟨.hbm, 37, rfl⟩
abbrev main_while0b_v82 : Ref sig .tc := ⟨.hbm, 38, rfl⟩
abbrev main_while0b_v83 : Ref sig .tc := ⟨.hbm, 39, rfl⟩
abbrev main_while0b_c_19 : Ref sig .tc := ⟨.hbm, 40, rfl⟩
abbrev main_while0b_v84 : Ref sig .tc := ⟨.hbm, 41, rfl⟩
abbrev main_while0b_v85 : Ref sig .tc := ⟨.hbm, 42, rfl⟩
abbrev main_while0b_v86 : Ref sig .tc := ⟨.hbm, 43, rfl⟩
abbrev main_while0b_c_20 : Ref sig .tc := ⟨.hbm, 44, rfl⟩
abbrev main_while0b_v87 : Ref sig .tc := ⟨.hbm, 45, rfl⟩
abbrev main_while0b_v88 : Ref sig .tc := ⟨.hbm, 46, rfl⟩
abbrev main_while0b_c_21 : Ref sig .tc := ⟨.hbm, 47, rfl⟩
abbrev main_while0b_v89 : Ref sig .tc := ⟨.hbm, 48, rfl⟩
abbrev main_while0b_v90 : Ref sig .tc := ⟨.hbm, 49, rfl⟩
abbrev main_while0b_v91 : Ref sig .tc := ⟨.hbm, 50, rfl⟩
abbrev main_while0b_v92 : Ref sig .tc := ⟨.hbm, 51, rfl⟩
abbrev main_while0b_v93 : Ref sig .tc := ⟨.hbm, 52, rfl⟩
abbrev main_while0b_v94 : Ref sig .tc := ⟨.hbm, 53, rfl⟩
abbrev main_while0b_v95 : Ref sig .tc := ⟨.hbm, 54, rfl⟩
abbrev main_while0b_v96 : Ref sig .tc := ⟨.hbm, 55, rfl⟩
abbrev main_while0b_call3_v0 : Ref sig .tc := ⟨.hbm, 56, rfl⟩
abbrev main_while0b_call3_c : Ref sig .tc := ⟨.hbm, 57, rfl⟩
abbrev main_while0b_v97 : Ref sig .tc := ⟨.hbm, 58, rfl⟩
abbrev main_while0b_c_22 : Ref sig .tc := ⟨.hbm, 59, rfl⟩
abbrev main_while0b_v98 : Ref sig .tc := ⟨.hbm, 60, rfl⟩
abbrev main_c_2 : Ref sig .tc := ⟨.hbm, 61, rfl⟩
abbrev main_v8 : Ref sig .tc := ⟨.hbm, 62, rfl⟩
abbrev main_v9 : Ref sig .tc := ⟨.hbm, 63, rfl⟩
abbrev main_v10 : Ref sig .tc := ⟨.hbm, 64, rfl⟩
abbrev main_v11 : Ref sig .tc := ⟨.hbm, 65, rfl⟩
abbrev main_v12 : Ref sig .tc := ⟨.hbm, 66, rfl⟩
abbrev main_c_3 : Ref sig .tc := ⟨.hbm, 67, rfl⟩
abbrev main_v13 : Ref sig .tc := ⟨.hbm, 68, rfl⟩
abbrev main_v14 : Ref sig .tc := ⟨.hbm, 69, rfl⟩
abbrev main_c_4 : Ref sig .tc := ⟨.hbm, 70, rfl⟩
abbrev main_v15 : Ref sig .tc := ⟨.hbm, 71, rfl⟩
abbrev main_v16 : Ref sig .tc := ⟨.hbm, 72, rfl⟩
abbrev main_v17 : Ref sig .tc := ⟨.hbm, 73, rfl⟩
abbrev main_c_5 : Ref sig .tc := ⟨.hbm, 74, rfl⟩
abbrev main_v18 : Ref sig .tc := ⟨.hbm, 75, rfl⟩
abbrev main_v19 : Ref sig .tc := ⟨.hbm, 76, rfl⟩
abbrev main_c_6 : Ref sig .tc := ⟨.hbm, 77, rfl⟩
abbrev main_v20 : Ref sig .tc := ⟨.hbm, 78, rfl⟩
abbrev main_v21 : Ref sig .tc := ⟨.hbm, 79, rfl⟩
abbrev main_v22 : Ref sig .tc := ⟨.hbm, 80, rfl⟩
abbrev main_v23 : Ref sig .tc := ⟨.hbm, 81, rfl⟩
abbrev main_v24 : Ref sig .tc := ⟨.hbm, 82, rfl⟩
abbrev main_v25 : Ref sig .tc := ⟨.hbm, 83, rfl⟩
abbrev main_v26 : Ref sig .tc := ⟨.hbm, 84, rfl⟩
abbrev main_v27 : Ref sig .tc := ⟨.hbm, 85, rfl⟩
abbrev main_v28 : Ref sig .tc := ⟨.hbm, 86, rfl⟩
abbrev main_v29 : Ref sig .tc := ⟨.hbm, 87, rfl⟩
abbrev main_v30 : Ref sig .tc := ⟨.hbm, 88, rfl⟩
abbrev main_v31 : Ref sig .tc := ⟨.hbm, 89, rfl⟩
abbrev main_v32 : Ref sig .tc := ⟨.hbm, 90, rfl⟩
abbrev main_v33 : Ref sig .tc := ⟨.hbm, 91, rfl⟩
abbrev main_c_7 : Ref sig .tc := ⟨.hbm, 92, rfl⟩
abbrev main_v34 : Ref sig .tc := ⟨.hbm, 93, rfl⟩
abbrev main_v35 : Ref sig .tc := ⟨.hbm, 94, rfl⟩
abbrev main_c_8 : Ref sig .tc := ⟨.hbm, 95, rfl⟩
abbrev main_v36 : Ref sig .tc := ⟨.hbm, 96, rfl⟩
abbrev main_v37 : Ref sig .tc := ⟨.hbm, 97, rfl⟩
abbrev main_v38 : Ref sig .tc := ⟨.hbm, 98, rfl⟩
abbrev main_v39 : Ref sig .tc := ⟨.hbm, 99, rfl⟩
abbrev main_v40 : Ref sig .tc := ⟨.hbm, 100, rfl⟩
abbrev main_v41 : Ref sig .tc := ⟨.hbm, 101, rfl⟩
abbrev main_v42 : Ref sig .tc := ⟨.hbm, 102, rfl⟩
abbrev main_v43 : Ref sig .tc := ⟨.hbm, 103, rfl⟩
abbrev main_v44 : Ref sig .tc := ⟨.hbm, 104, rfl⟩
abbrev main_cst : Ref sig .tc := ⟨.hbm, 105, rfl⟩
abbrev main_v45 : Ref sig .tc := ⟨.hbm, 106, rfl⟩
abbrev main_v46 : Ref sig .tc := ⟨.hbm, 107, rfl⟩
abbrev main_cst_9 : Ref sig .tc := ⟨.hbm, 108, rfl⟩
abbrev main_v47 : Ref sig .tc := ⟨.hbm, 109, rfl⟩
abbrev main_v48 : Ref sig .tc := ⟨.hbm, 110, rfl⟩
abbrev main_cst_10 : Ref sig .tc := ⟨.hbm, 111, rfl⟩
abbrev main_v49 : Ref sig .tc := ⟨.hbm, 112, rfl⟩
abbrev main_v50 : Ref sig .tc := ⟨.hbm, 113, rfl⟩
abbrev main_v51 : Ref sig .tc := ⟨.hbm, 114, rfl⟩
abbrev main_v52 : Ref sig .tc := ⟨.hbm, 115, rfl⟩
abbrev main_cst_11 : Ref sig .tc := ⟨.hbm, 116, rfl⟩
abbrev main_v53 : Ref sig .tc := ⟨.hbm, 117, rfl⟩
abbrev main_v54 : Ref sig .tc := ⟨.hbm, 118, rfl⟩
abbrev main_v55 : Ref sig .tc := ⟨.hbm, 119, rfl⟩
abbrev main_v56 : Ref sig .tc := ⟨.hbm, 120, rfl⟩
abbrev main_v57 : Ref sig .tc := ⟨.hbm, 121, rfl⟩
abbrev main_v58 : Ref sig .tc := ⟨.hbm, 122, rfl⟩
abbrev main_v59 : Ref sig .tc := ⟨.hbm, 123, rfl⟩
abbrev main_v60 : Ref sig .tc := ⟨.hbm, 124, rfl⟩
abbrev main_v61 : Ref sig .tc := ⟨.hbm, 125, rfl⟩
abbrev main_v62 : Ref sig .tc := ⟨.hbm, 126, rfl⟩
abbrev main_v63 : Ref sig .tc := ⟨.hbm, 127, rfl⟩
abbrev main_v64 : Ref sig .tc := ⟨.hbm, 128, rfl⟩
abbrev main_v65 : Ref sig .tc := ⟨.hbm, 129, rfl⟩
abbrev main_v66 : Ref sig .tc := ⟨.hbm, 130, rfl⟩
abbrev main_v67 : Ref sig .tc := ⟨.hbm, 131, rfl⟩
abbrev main_v68 : Ref sig .tc := ⟨.hbm, 132, rfl⟩
abbrev main_v69 : Ref sig .tc := ⟨.hbm, 133, rfl⟩
abbrev main_v70 : Ref sig .tc := ⟨.hbm, 134, rfl⟩
abbrev main_v71 : Ref sig .tc := ⟨.hbm, 135, rfl⟩
abbrev main_v72 : Ref sig .tc := ⟨.hbm, 136, rfl⟩
abbrev main_v73 : Ref sig .tc := ⟨.hbm, 137, rfl⟩
abbrev main_v74 : Ref sig .tc := ⟨.hbm, 138, rfl⟩
abbrev main_v75 : Ref sig .tc := ⟨.hbm, 139, rfl⟩

abbrev nD : Nat := 1
abbrev τ : Topo := Topo.v7x

variable {F : FTy → Type} [FloatOps F]

abbrev main_while0_count : Scf.Loop 32 := ⟨0#32, 2047#32, 1#32⟩
-- ==== Proof.Code.lean ====
/- The position code as a table of real numbers, and the two ways the programs spell it. -/
module

public import Idealize.ShloMosaic.PureOps.Ideal
public import Idealize.ShloMosaic.Lib.Pointwise

@[expose] public section

noncomputable section

open Idealize.ShloMosaic

namespace Cert.FrameCode

/-- The natural logarithm of the step from one column of the code to the next: `-log 10000 / 256`. -/
def logStep : ℝ := (-(Real.log 10000)) * 256⁻¹

/-- The angle of frame `f` at column `k`; the two columns of a pair share it. -/
def angle (f k : ℕ) : ℝ := (f : ℝ) * Real.exp (((2 * (k / 2) : ℕ) : ℝ) * logStep)

/-- The code of frame `f` at column `k`: the angle's sine at an even column, its cosine at an odd one. -/
def code (f k : ℕ) : ℝ := if k % 2 = 0 then Real.sin (angle f k) else Real.cos (angle f k)

/-- The float `10000.0` is the number ten thousand. -/
theorem ofBits_10000 : Ideal.ofBits .f32 0x461C4000#32 = ((10000 : ℝ) : EReal) := by
  simp [Ideal.ofBits, Ideal.ieee, -EReal.coe_mul]; norm_num

/-- The float `2.0` is the number two. -/
theorem ofBits_2 : Ideal.ofBits .f32 0x40000000#32 = ((2 : ℝ) : EReal) := by
  simp [Ideal.ofBits, Ideal.ieee, -EReal.coe_mul]; norm_num

/-- The float `256.0` is the number two hundred and fifty-six. -/
theorem ofBits_256 : Ideal.ofBits .f32 0x43800000#32 = ((256 : ℝ) : EReal) := by
  simp [Ideal.ofBits, Ideal.ieee, -EReal.coe_mul]; norm_num

/-- The float infinity is the top element. -/
theorem ofBits_inf : Ideal.ofBits .f32 0x7F800000#32 = ⊤ := by
  simp [Ideal.ofBits, Ideal.ieee]

/-- Clearing the lowest bit of a column's number leaves the even column of its pair. -/
theorem even_column (k : Fin 256) : IntOp.andi (BitVec.ofNat 32 k) 4294967294#32 = BitVec.ofNat 32 (2 * (k.val / 2)) := by
  revert k; decide +kernel

/-- The lowest bit of a column's number is zero exactly at the even columns. -/
theorem parity (k : Fin 256) :
    IntOp.cmpi .eq (IntOp.andi (BitVec.ofNat 32 k) 1#32) 0#32 = if k.val % 2 = 0 then 1#1 else 0#1 := by
  revert k; decide +kernel

/-- A small natural number, as a word read signed, is itself. -/
theorem toInt_small (n : ℕ) (h : n < 2 ^ 31) : (BitVec.ofNat 32 n).toInt = n := by
  rw [BitVec.toInt_eq_toNat_cond, BitVec.toNat_ofNat, Nat.mod_eq_of_lt (by omega), if_pos (by omega)]

/-- The number of frame `r` of block `i`. -/
theorem frame_word (i r : ℕ) :
    IntOp.addi (BitVec.ofNat 32 r) (Scalar.muli (BitVec.ofNat 32 i) 256#32) = BitVec.ofNat 32 (256 * i + r) := by
  show BitVec.ofNat 32 r + BitVec.ofNat 32 i * 256#32 = _
  rw [show (256#32 : BitVec 32) = BitVec.ofNat 32 256 from rfl, ← BitVec.ofNat_mul, ← BitVec.ofNat_add]
  congr 1; omega

/-- The kernel's spelling of the code: the frame's number from the block and the row, the column with its lowest bit cleared
    times the folded step, the sine or the cosine by the column's lowest bit. -/
theorem code_kernel (i r : ℕ) (hi : i < 8) (hr : r < 256) (k : Fin 256) :
    Scalar.select (IntOp.cmpi .eq (IntOp.andi (BitVec.ofNat 32 k) 1#32) 0#32)
      (Ideal.sin (FloatOps.sitofp (F := Ideal) .f32 (IntOp.addi (BitVec.ofNat 32 r) (Scalar.muli (BitVec.ofNat 32 i) 256#32))
        * Ideal.exp (FloatOps.sitofp (F := Ideal) .f32 (IntOp.andi (BitVec.ofNat 32 k) 4294967294#32) * (logStep : EReal))))
      (Ideal.cos (FloatOps.sitofp (F := Ideal) .f32 (IntOp.addi (BitVec.ofNat 32 r) (Scalar.muli (BitVec.ofNat 32 i) 256#32))
        * Ideal.exp (FloatOps.sitofp (F := Ideal) .f32 (IntOp.andi (BitVec.ofNat 32 k) 4294967294#32) * (logStep : EReal))))
      = ((code (256 * i + r) k : ℝ) : EReal) := by
  have hk := k.isLt
  rw [parity, frame_word, even_column]
  have e1 : FloatOps.sitofp (F := Ideal) .f32 (BitVec.ofNat 32 (256 * i + r)) = (((256 * i + r : ℕ) : ℝ) : EReal) := by
    show (((BitVec.ofNat 32 (256 * i + r)).toInt : ℝ) : EReal) = _
    rw [toInt_small _ (by omega)]; rfl
  have e2 : FloatOps.sitofp (F := Ideal) .f32 (BitVec.ofNat 32 (2 * (k.val / 2))) = (((2 * (k.val / 2) : ℕ) : ℝ) : EReal) := by
    show (((BitVec.ofNat 32 (2 * (k.val / 2))).toInt : ℝ) : EReal) = _
    rw [toInt_small _ (by omega)]; rfl
  rw [e1, e2]
  have e3 : (((256 * i + r : ℕ) : ℝ) : EReal) * Ideal.exp ((((2 * (k.val / 2) : ℕ) : ℝ) : EReal) * (logStep : EReal))
      = ((angle (256 * i + r) k : ℝ) : EReal) := by
    rw [← EReal.coe_mul]
    show _ * ((Real.exp _ : ℝ) : EReal) = _
    rw [← EReal.coe_mul]; rfl
  rw [e3]
  unfold code
  by_cases h : k.val % 2 = 0
  · rw [if_pos h, if_pos h]; rfl
  · rw [if_neg h, if_neg h]; rfl

/-- The reference's exponent: the logarithm of ten thousand, negated, times the even column of the pair, over the number of
    columns. -/
theorem exponent_reference (k : Fin 256) :
    Ideal.div (-Ideal.log (Ideal.ofBits .f32 0x461C4000#32)
        * (Ideal.ofBits .f32 0x40000000#32 * FloatOps.sitofp (F := Ideal) .f32 (BitVec.ofNat 32 (k.val / 2))))
      (Ideal.ofBits .f32 0x43800000#32) = ((((2 * (k.val / 2) : ℕ) : ℝ) * logStep : ℝ) : EReal) := by
  have hk := k.isLt
  have e : FloatOps.sitofp (F := Ideal) .f32 (BitVec.ofNat 32 (k.val / 2)) = (((k.val / 2 : ℕ) : ℝ) : EReal) := by
    show (((BitVec.ofNat 32 (k.val / 2)).toInt : ℝ) : EReal) = _
    rw [toInt_small _ (by omega)]; rfl
  have hlog : Ideal.log ((10000 : ℝ) : EReal) = ((Real.log 10000 : ℝ) : EReal) :=
    if_neg (by norm_num)
  rw [e, ofBits_10000, ofBits_2, ofBits_256, hlog, ← EReal.coe_neg, ← EReal.coe_mul, ← EReal.coe_mul,
    Ideal.div_coe (by norm_num : (256 : ℝ) ≠ 0)]
  unfold logStep
  norm_cast
  push_cast
  ring

/-- The reference's spelling of the code: the sines and the cosines of one angle laid side by side. -/
theorem code_reference (f : Fin 2048) (k : Fin 256) (x : EReal)
    (hx : x = ((((2 * (k.val / 2) : ℕ) : ℝ) * logStep : ℝ) : EReal)) :
    (if k.val % 2 < 1 then Ideal.sin (FloatOps.sitofp (F := Ideal) .f32 (BitVec.ofNat 32 f.val) * Ideal.exp x)
      else Ideal.cos (FloatOps.sitofp (F := Ideal) .f32 (BitVec.ofNat 32 f.val) * Ideal.exp x)) = ((code f k : ℝ) : EReal) := by
  have e1 : FloatOps.sitofp (F := Ideal) .f32 (BitVec.ofNat 32 f.val) = (((f.val : ℕ) : ℝ) : EReal) := by
    show (((BitVec.ofNat 32 f.val).toInt : ℝ) : EReal) = _
    rw [toInt_small _ (by omega)]; rfl
  have e2 : (((f.val : ℕ) : ℝ) : EReal) * Ideal.exp x = ((angle f k : ℝ) : EReal) := by
    rw [hx]
    show _ * ((Real.exp _ : ℝ) : EReal) = _
    rw [← EReal.coe_mul]; rfl
  rw [e1, e2]
  unfold code
  by_cases h : k.val % 2 = 0
  · rw [if_pos h, if_pos (by omega)]; rfl
  · rw [if_neg h, if_neg (by omega)]; rfl

end Cert.FrameCode

end
-- ==== Proof.Sums.lean ====
/- The arithmetic of extended reals that the equation rests on: a finite factor distributes over a sum with a finite
   addend, and a product of sums splits. -/
module

public import Mathlib.Data.EReal.Operations
public import Mathlib.Algebra.BigOperators.Fin

@[expose] public section

noncomputable section

namespace Cert.FrameCode

/-- A finite factor distributes over a sum whose second addend is finite, whatever the first is. -/
theorem add_mul_finite (a : EReal) (p w : ℝ) : (a + (p : EReal)) * (w : EReal) = a * (w : EReal) + (p : EReal) * (w : EReal) := by
  induction a with
  | coe a => norm_cast; ring
  | bot =>
    rcases lt_trichotomy w 0 with h | h | h
    · rw [EReal.bot_add, EReal.bot_mul_coe_of_neg h, ← EReal.coe_mul, EReal.top_add_coe]
    · subst h; simp
    · rw [EReal.bot_add, EReal.bot_mul_coe_of_pos h, EReal.bot_add]
  | top =>
    rcases lt_trichotomy w 0 with h | h | h
    · rw [EReal.top_add_coe, EReal.top_mul_coe_of_neg h, EReal.bot_add]
    · subst h; simp
    · rw [EReal.top_add_coe, EReal.top_mul_coe_of_pos h, ← EReal.coe_mul, EReal.top_add_coe]

/-- The projection of a row plus a finite code is the projection of the row plus the projection of the code. -/
theorem sum_add_mul_finite {n : ℕ} (a w : Fin n → EReal) (p : Fin n → ℝ) (hw : ∀ k, ∃ r : ℝ, w k = (r : EReal)) :
    ∑ k, (a k + (p k : EReal)) * w k = ∑ k, a k * w k + ∑ k, (p k : EReal) * w k := by
  rw [← Finset.sum_add_distrib]
  refine Finset.sum_congr rfl fun k _ => ?_
  obtain ⟨r, hr⟩ := hw k
  rw [hr]
  exact add_mul_finite _ _ _

/-- A finite row and the other row's difference from it make the other row. -/
theorem add_sub_finite (x e1 : EReal) (e0 : ℝ) : x + (e0 : EReal) + 1 * (e1 - (e0 : EReal)) = x + e1 := by
  rw [one_mul, add_assoc, add_comm (e0 : EReal), EReal.sub_add_cancel]

/-- Nothing times a difference adds nothing. -/
theorem add_zero_mul (x y : EReal) : x + 0 * y = x := by rw [zero_mul, add_zero]

end Cert.FrameCode

end
-- ==== Proof.Entry.lean ====
/- What one entry of the result is, of the argument arrays: as the kernel adds it up, and as the reference does. -/
module

public import proofs.«01_k».proof.Proof.Code
public import proofs.«01_k».proof.Proof.Sums

@[expose] public section

noncomputable section

open Idealize.ShloMosaic

namespace Cert.FrameCode

variable (enc : FVec Ideal ⟨3, ![4, 1024, 256]⟩ .f32) (pitch : FVec Ideal ⟨3, ![4, 2048, 1]⟩ .f32)
  (beats : IVec ⟨3, ![4, 2048, 1]⟩ 32) (wp : FVec Ideal ⟨2, ![1, 256]⟩ .f32) (bp : FVec Ideal ⟨1, ![256]⟩ .f32)
  (w : FVec Ideal ⟨2, ![256, 256]⟩ .f32) (bq : FVec Ideal ⟨1, ![256]⟩ .f32) (emb : FVec Ideal ⟨2, ![2, 256]⟩ .f32)

/-- Entry `(b, f, d)` as the kernel adds it up: the first encoder row and its projection with the two biases, the projected
    code, the pitch times its weight, the first beat row, and the beat times the difference of the two beat rows. -/
def kernelEntry (b : Fin 4) (f : Fin 2048) (d : Fin 256) : EReal :=
  enc (ix3 b 0 d) + ∑ k : Fin 256, enc (ix3 b 0 k) * w (ix2 k d) + bp (ix1 d) + bq (ix1 d)
    + ∑ k : Fin 256, ((code f k : ℝ) : EReal) * w (ix2 k d)
    + pitch (ix3 b f 0) * wp (ix2 0 d) + emb (ix2 0 d)
    + FloatOps.sitofp (F := Ideal) .f32 (beats (ix3 b f 0)) * (emb (ix2 1 d) - emb (ix2 0 d))

/-- The row of the beat table that a beat picks: a negative beat counts from the end, and the row is held inside the table. -/
def beatRow (n : BitVec 32) : Fin 2 :=
  ⟨min (Scalar.select (IntOp.cmpi .slt n 0#32) (IntOp.addi n 2#32) n).toInt.toNat 1, by omega⟩

/-- Entry `(b, f, d)` as the reference adds it up where the alignment stays at the first encoder row: that row, the pitch
    embedding, the beat's row, and the projection of the row with the code added to it. -/
def referenceEntry (b : Fin 4) (f : Fin 2048) (d : Fin 256) : EReal :=
  enc (ix3 b 0 d) + (∑ k : Fin 1, pitch (ix3 b f k) * wp (ix2 k d) + bp (ix1 d)) + emb (ix2 (beatRow (beats (ix3 b f 0))) d)
    + (∑ k : Fin 256, (enc (ix3 b 0 k) + ((code f k : ℝ) : EReal)) * w (ix2 k d) + bq (ix1 d))

/-- Beat zero picks the first row. -/
theorem beatRow_zero : beatRow 0#32 = 0 := by decide

/-- Beat one picks the second row. -/
theorem beatRow_one : beatRow 1#32 = 1 := by decide

/-- The two beat terms agree: the first row plus the beat times the rows' difference is the beat's row, the first row being
    finite and the beat zero or one. -/
theorem beat_term (x e0 e1 : EReal) (n : BitVec 32) (hn : n = 0#32 ∨ n = 1#32) (h0 : ∃ r : ℝ, e0 = (r : EReal)) :
    x + e0 + FloatOps.sitofp (F := Ideal) .f32 n * (e1 - e0) = x + (if n = 0#32 then e0 else e1) := by
  obtain ⟨r, rfl⟩ := h0
  rcases hn with rfl | rfl
  · rw [if_pos rfl]
    have h : FloatOps.sitofp (F := Ideal) .f32 (0#32 : BitVec 32) = (0 : EReal) := by
      show (((0#32 : BitVec 32).toInt : ℝ) : EReal) = 0
      simp
    rw [h]; exact add_zero_mul _ _
  · rw [if_neg (by decide)]
    have h : FloatOps.sitofp (F := Ideal) .f32 (1#32 : BitVec 32) = (1 : EReal) := by
      show (((1#32 : BitVec 32).toInt : ℝ) : EReal) = 1
      simp
    rw [h]; exact add_sub_finite _ _ _

/-- The two ways of adding an entry up agree where the beat is zero or one and the projection and the first beat row are
    finite. -/
theorem entries_agree (hbeats : ∀ b f, beats (ix3 b f 0) = 0#32 ∨ beats (ix3 b f 0) = 1#32)
    (hw : ∀ k d, ∃ r : ℝ, w (ix2 k d) = (r : EReal)) (he : ∀ d, ∃ r : ℝ, emb (ix2 0 d) = (r : EReal))
    (b : Fin 4) (f : Fin 2048) (d : Fin 256) :
    referenceEntry enc pitch beats wp bp w bq emb b f d = kernelEntry enc pitch beats wp bp w bq emb b f d := by
  unfold referenceEntry kernelEntry
  rw [beat_term _ _ _ _ (hbeats b f) (he d),
    sum_add_mul_finite (fun k => enc (ix3 b 0 k)) (fun k => w (ix2 k d)) (fun k => code f k) (fun k => hw k d),
    Fin.sum_univ_one]
  have hrow : emb (ix2 (beatRow (beats (ix3 b f 0))) d)
      = if beats (ix3 b f 0) = 0#32 then emb (ix2 0 d) else emb (ix2 1 d) := by
    rcases hbeats b f with h | h
    · rw [h, beatRow_zero, if_pos rfl]
    · rw [h, beatRow_one, if_neg (by decide)]
  rw [hrow]
  generalize (∑ k : Fin 256, enc (ix3 b 0 k) * w (ix2 k d)) = p
  generalize (∑ k : Fin 256, ((code f k : ℝ) : EReal) * w (ix2 k d)) = q
  ac_rfl

end Cert.FrameCode

end
-- ==== Proof.Block.lean ====
/- What one grid point of the kernel stores, read at an index of its block. -/
module

public import proofs.«01_k».proof.Proof.Entry
public import proofs.«01_k».proof.Proof.Gen.KernelIdeal.Skeleton
public import Idealize.ShloMosaic.Lib.Pointwise

@[expose] public section

set_option maxRecDepth 16384

noncomputable section

open Idealize.ShloMosaic Idealize.ShloMosaic.TcCoe

namespace Cert.KernelIdeal.Block

open Cert.KernelIdeal Cert.KernelIdeal.Gen Cert.FrameCode

/-- The kernel's folded step is the real that it is named. -/
theorem step_eq : Named.named (F := Ideal) (φ := .f32) κ "log_step" 0xBD135D8E#32 = (logStep : EReal) :=
  IdealRules.named_const.ideal_named_scalar κ "log_step" _ _ rfl

/-- The projected code of a grid point: row `r`, column `d` is the code of frame `256 i + r` times column `d` of the
    projection. -/
theorem projected_code (i : grid0.Coords) (w : FVec Ideal S256x256 .f32) (r d : Fin 256) :
    k0_pay2 (F := Ideal) i w (ix2 r d)
      = ∑ k : Fin 256, ((code (256 * (i 0).val + r) k : ℝ) : EReal) * w (ix2 k d) := by
  pointwise [k0_pay2]
  refine Finset.sum_congr rfl fun k _ => ?_
  rw [step_eq, code_kernel _ _ (i 0).isLt r.isLt]

/-- The part of a grid point's block that no frame changes: the encoder row, its projection and the two biases. -/
theorem base (e : FVec Ideal S4x256 .f32) (w : FVec Ideal S256x256 .f32) (bp bq : FVec Ideal S1x256 .f32) (b : Fin 4)
    (d : Fin 256) : k0_pay3 (F := Ideal) e w bp bq (ix2 b d)
      = e (ix2 b d) + ∑ k : Fin 256, e (ix2 b k) * w (ix2 k d) + bp (ix2 0 d) + bq (ix2 0 d) := by
  pointwise [k0_pay3]

end Cert.KernelIdeal.Block

end
-- ==== Proof.Array.lean ====
/- What the kernel's result array holds after the run: at every index the kernel's entry, of the argument arrays. -/
module

public import proofs.«01_k».proof.Proof.Block
public import proofs.«01_k».proof.Proof.Gen.KernelIdeal.Value
public import Idealize.ShloMosaic.Lib.Pipeline.ValueKit

@[expose] public section

set_option maxRecDepth 16384

noncomputable section

open Idealize.ShloMosaic Idealize.ShloMosaic.TcCoe Idealize.SL.Sem

namespace Cert.KernelIdeal.Array

open Cert.KernelIdeal Cert.KernelIdeal.Gen Cert.FrameCode

variable (m : (ℓ : Loc nD τ sig) → Buf (Elt Ideal) ℓ)

/-- Which block each window holds at grid point `t`: the frames' windows the `t`-th block of frames, the others the whole
    array. -/
theorem blocks : ∀ t : Fin cfg0.N, win0_0.index t = ![0, 0] ∧ win0_1.index t = ![0, t.val] ∧ win0_2.index t = ![0, t.val]
    ∧ win0_3.index t = ![0, 0] ∧ win0_4.index t = ![0, 0] ∧ win0_5.index t = ![0, 0] ∧ win0_6.index t = ![0, 0]
    ∧ win0_7.index t = ![0, 0] ∧ win0_8.index t = ![0, t.val, 0] ∧ (grid0.coords t 0).val = t.val :=
  (by decide +kernel : ∀ t : Fin grid0.N, _)

/-- The kernel's result, of the arrays at launch. -/
def result (c : Dev nD) : FVec Ideal S4x2048x256 .f32 := fun y =>
  kernelEntry (m ((c : Thread nD τ).loc main_arg0)) (m ((c : Thread nD τ).loc main_arg1))
    (m ((c : Thread nD τ).loc main_arg2)) (m ((c : Thread nD τ).loc main_arg5)) (m ((c : Thread nD τ).loc main_arg6))
    (m ((c : Thread nD τ).loc main_arg7)) (m ((c : Thread nD τ).loc main_arg8)) (m ((c : Thread nD τ).loc main_arg9))
    (y 0) (y 1) (y 2)

/-- The result array after the run holds the kernel's entry at every index: the blocks of frames tile it, and each grid
    point stores its block's entries. -/
theorem final (c : Dev nD) : (dats m 0 c).arrAt 8 (cfgs 0).N = result m c := by
  refine (dats m 0 c).arrAt_eq_of_covers 8 _ (by decide +kernel) fun t _ y => ?_
  blk_simp
  rw [after0_8]
  frame_out
  have hf : ((((View.whole main_v6).slice (win0_8.rect t)).emb y) 1).val = 256 * (grid0.coords t 0).val + (y 1).val := by
    blk_simp [blocks t]
    omega
  pointwise [k0_pay1, k0_pay4, result, kernelEntry, Block.base, Block.projected_code]
  rw [hf]
  blk_point [iblk, V, blocks t]

end Cert.KernelIdeal.Array

end
-- ==== Proof.Loop.lean ====
/- The reference's alignment loop where every frame after the first is in step with the first note: the alignment never
   leaves the first encoder row. -/
module

public import proofs.«01_k».proof.Proof.Code
public import proofs.«01_k».proof.Proof.Gen.ReferenceIdeal.Step
public import Idealize.ShloMosaic.Lib.Pointwise

@[expose] public section

set_option maxRecDepth 16384

noncomputable section

open Idealize.ShloMosaic Idealize.ShloMosaic.TcCoe

namespace Cert.ReferenceIdeal.Loop

open Cert.ReferenceIdeal Cert.ReferenceIdeal.Gen Cert.ReferenceIdeal.Step

variable (al : IVec S4x2048 32) (tx : IVec S4x1024 32)

/-- Every frame after the first holds the first note of its sequence. -/
def InStep : Prop := ∀ (b : Fin 4) (n : Fin 2047), al (ix2 b ⟨1 + n, by omega⟩) = tx (ix2 b 0)

/-- The loop's states from the arguments: state number `n` is what trip `n` finds. -/
def states : ℕ → State Ideal
  | 0 => init tx al
  | n + 1 => step n (states n)

/-- Trip `j` reads row `j` of the frames: the row is inside the array, so the slice starts there. -/
theorem start_row (j : ℕ) (hj : j < 2047) (start : Fin 2 → Int) (h : start 0 = (BitVec.ofNat 32 j).toInt) :
    Host.clampedStart S2047x4 S1x4 rfl start 0 = j :=
  Host.clampedStart_of_le _ _ _ j (by rw [h, Cert.FrameCode.toInt_small j (by omega)])
    (by show j + 1 ≤ 2047; omega)

/-- Trip `j` reads a whole row: the slice starts at column zero. -/
theorem start_column (start : Fin 2 → Int) (h : start 1 = 0) :
    Host.clampedStart S2047x4 S1x4 rfl start 1 = 0 :=
  Host.clampedStart_of_le _ _ _ 0 (by rw [h]; rfl) (by decide)

/-- In trip `j` every frame equals the note before it. -/
theorem same (hin : InStep al tx) (j : ℕ) (hj : j < 2047) (s : State Ideal)
    (h0 : s.main_v7_0 = A_main_v5 (F := Ideal) al tx) (h4 : s.main_v7_4 = A_main_v3 (F := Ideal) al tx) :
    b3 j s = fun _ => 1#1 := by
  funext y
  obtain ⟨b, rfl⟩ : ∃ b : Fin 4, y = ix1 b := ⟨y 0, (ix1_eta y).symm⟩
  pointwise [b3, b2, b1, b0, h0, h4, A_main_v5, A_main_v4, A_main_v3, A_main_v2]
  have key : ∀ (p : Fin 4) (q : Fin 2048), p.val = b.val → q.val = 1 + j →
      IntOp.cmpi .eq (al (ix2 p q)) (tx (ix2 b 0)) = 1#1 := by
    intro p q hp hq
    obtain rfl : p = b := Fin.ext hp
    have e : q = ⟨1 + j, by omega⟩ := Fin.ext hq
    rw [e, hin p ⟨j, hj⟩]
    simp [IntOp.cmpi]
  exact key _ _ ((congrArg (· + b.val) (start_column _ rfl)).trans (Nat.zero_add _))
    (congrArg (1 + ·) (start_row j hj _ rfl))

/-- Where every frame equals the note before it and the place is the first one, the place stays. -/
theorem place (j : ℕ) (s : State Ideal) (h3 : s.main_v7_3 = fun _ => 0#32) (h : b3 j s = fun _ => 1#1) :
    b7 j s = fun _ => 0#32 := by
  funext y
  pointwise [b7, h, h3]

/-- Where every frame equals the note before it, that note stays. -/
theorem note (j : ℕ) (s : State Ideal) (h : b3 j s = fun _ => 1#1) : b27 j s = s.main_v7_4 := by
  funext y
  pointwise [b27, h]

/-- Writing a first place into places that are all the first leaves them so. -/
theorem places (j : ℕ) (s : State Ideal) (h5 : s.main_v7_5 = fun _ => 0#32) (h7 : b7 j s = fun _ => 0#32) :
    b30 j s = fun _ => 0#32 := by
  funext y
  pointwise [b30, b28, h5, h7]
  split <;> rfl

/-- What holds of every state up to the last. -/
structure Stays (s : State Ideal) : Prop where
  place : s.main_v7_3 = fun _ => 0#32
  note : s.main_v7_4 = A_main_v3 (F := Ideal) al tx
  places : s.main_v7_5 = fun _ => 0#32
  frames : s.main_v7_0 = A_main_v5 (F := Ideal) al tx

/-- The loop stays at the first place. -/
theorem stays (hin : InStep al tx) : ∀ n ≤ 2047, Stays al tx (states al tx n)
  | 0, _ => ⟨rfl, rfl, rfl, rfl⟩
  | n + 1, hn => by
    have h := stays hin n (by omega)
    have hsame := same al tx hin n (by omega) _ h.frames h.note
    have hplace := place n _ h.place hsame
    exact ⟨(step_main_v7_3 n _).trans hplace, (step_main_v7_4 n _).trans ((note n _ hsame).trans h.note),
      (step_main_v7_5 n _).trans (places n _ h.places hplace), h.frames⟩

end Cert.ReferenceIdeal.Loop

end
-- ==== Proof.Rows.lean ====
/- The reference's two row lookups, read at an index: the encoder row that the alignment picks and the beat row. -/
module

public import proofs.«01_k».proof.Proof.Gen.ReferenceIdeal.Step
public import Idealize.ShloMosaic.Lib.Pointwise

@[expose] public section

set_option maxRecDepth 16384

noncomputable section

open Idealize.ShloMosaic Idealize.ShloMosaic.TcCoe

namespace Cert.ReferenceIdeal.Rows

open Cert.ReferenceIdeal Cert.ReferenceIdeal.Gen

variable {α : Type}

/-- The lookup of an encoder row: entry `(b, f, d)` is column `d` of the row that the index pair at `(b, f)` names, each
    index read signed and held inside the array. -/
theorem encoder_row (x : S4x1024x256.Idx → α) (idx : IVec S4x2048x2 32) (b : Fin 4) (f : Fin 2048) (d : Fin 256) :
    Host.gather gather_S4x1024x256_S4x2048x2_S4x2048x256_2_01_n_n_01_2_11256 x idx (ix3 b f d)
      = x (ix3 ⟨min (idx (ix3 b f 0)).toInt.toNat 3, by omega⟩ ⟨min (idx (ix3 b f 1)).toInt.toNat 1023, by omega⟩ d) := by
  unfold Host.gather
  refine congrArg x (funext fun a => Fin.ext ?_)
  show GatherDims.start _ _ idx a + GatherDims.batchCoord _ _ a + GatherDims.offCoord _ _ a = _
  rw [GatherDims.batchCoord_eq_zero _ _ _ List.not_mem_nil]
  have ha : a = (0 : Fin 3) ∨ a = (1 : Fin 3) ∨ a = (2 : Fin 3) := by
    match a with
    | ⟨0, _⟩ => exact .inl rfl
    | ⟨1, _⟩ => exact .inr (.inl rfl)
    | ⟨2, _⟩ => exact .inr (.inr rfl)
  rcases ha with rfl | rfl | rfl
  · rw [GatherDims.offCoord_eq_zero _ _ _ (fun h => ((GatherDims.mem_sKept _ _).mp h).1 (by decide))]
    unfold GatherDims.start
    rw [dif_pos (by decide)]
    have hsi : GatherDims.siIdx gather_S4x1024x256_S4x2048x2_S4x2048x256_2_01_n_n_01_2_11256 (ix3 b f d) ⟨0, by decide⟩
        = ix3 b f 0 := by
      funext q; refine Fin.ext ?_
      match q with
      | ⟨0, _⟩ => rfl
      | ⟨1, _⟩ => rfl
      | ⟨2, _⟩ => rfl
    exact congrArg (fun z : S4x2048x2.Idx => min (idx z).toInt.toNat 3) hsi
  · rw [GatherDims.offCoord_eq_zero _ _ _ (fun h => ((GatherDims.mem_sKept _ _).mp h).1 (by decide))]
    unfold GatherDims.start
    rw [dif_pos (by decide)]
    have hsi : GatherDims.siIdx gather_S4x1024x256_S4x2048x2_S4x2048x256_2_01_n_n_01_2_11256 (ix3 b f d) ⟨1, by decide⟩
        = ix3 b f 1 := by
      funext q; refine Fin.ext ?_
      match q with
      | ⟨0, _⟩ => rfl
      | ⟨1, _⟩ => rfl
      | ⟨2, _⟩ => rfl
    exact congrArg (fun z : S4x2048x2.Idx => min (idx z).toInt.toNat 1023) hsi
  · unfold GatherDims.start GatherDims.offCoord
    rw [dif_neg (by decide), dif_pos (by decide)]
    simp only [Nat.zero_add, Nat.add_zero]
    rfl

/-- The lookup of a beat row: entry `(b, f, d)` is column `d` of the row that the index at `(b, f)` names, read signed and
    held inside the table. -/
theorem beat_row (x : S2x256.Idx → α) (idx : IVec S4x2048x1 32) (b : Fin 4) (f : Fin 2048) (d : Fin 256) :
    Host.gather gather_S2x256_S4x2048x1_S4x2048x256_2_0_n_n_0_2_1256 x idx (ix3 b f d)
      = x (ix2 ⟨min (idx (ix3 b f 0)).toInt.toNat 1, by omega⟩ d) := by
  unfold Host.gather
  refine congrArg x (funext fun a => Fin.ext ?_)
  show GatherDims.start _ _ idx a + GatherDims.batchCoord _ _ a + GatherDims.offCoord _ _ a = _
  rw [GatherDims.batchCoord_eq_zero _ _ _ List.not_mem_nil]
  have ha : a = (0 : Fin 2) ∨ a = (1 : Fin 2) := by
    match a with
    | ⟨0, _⟩ => exact .inl rfl
    | ⟨1, _⟩ => exact .inr rfl
  rcases ha with rfl | rfl
  · rw [GatherDims.offCoord_eq_zero _ _ _ (fun h => ((GatherDims.mem_sKept _ _).mp h).1 (by decide))]
    unfold GatherDims.start
    rw [dif_pos (by decide)]
    have hsi : GatherDims.siIdx gather_S2x256_S4x2048x1_S4x2048x256_2_0_n_n_0_2_1256 (ix3 b f d) ⟨0, by decide⟩
        = ix3 b f 0 := by
      funext q; refine Fin.ext ?_
      match q with
      | ⟨0, _⟩ => rfl
      | ⟨1, _⟩ => rfl
      | ⟨2, _⟩ => rfl
    exact congrArg (fun z : S4x2048x1.Idx => min (idx z).toInt.toNat 1) hsi
  · unfold GatherDims.start GatherDims.offCoord
    rw [dif_neg (by decide), dif_pos (by decide)]
    simp only [Nat.zero_add, Nat.add_zero]
    rfl

end Cert.ReferenceIdeal.Rows

end
-- ==== Proof.Output.lean ====
/- The reference's result at an index, of the loop's last state, where the alignment stays at the first encoder row. -/
module

public import proofs.«01_k».proof.Proof.Entry
public import proofs.«01_k».proof.Proof.Rows

@[expose] public section

set_option maxRecDepth 16384

noncomputable section

open Idealize.ShloMosaic Idealize.ShloMosaic.TcCoe

namespace Cert.ReferenceIdeal.Output

open Cert.ReferenceIdeal Cert.ReferenceIdeal.Gen Cert.ReferenceIdeal.Step Cert.FrameCode

/-- Each sequence reads its own rows: a sequence's number is not negative and lies inside the table. -/
theorem own_sequence (b : Fin 4) (h) :
    (⟨min (Scalar.select (IntOp.cmpi .slt (BitVec.ofNat 32 b.val) 0#32) (IntOp.addi (BitVec.ofNat 32 b.val) 4#32)
      (BitVec.ofNat 32 b.val)).toInt.toNat 3, h⟩ : Fin 4) = b := by
  apply Fin.ext
  show min _ 3 = b.val
  revert b; decide

/-- The first place, whichever part of the places' array it is read from, is the first row of the encoder. -/
theorem first_row (p : Prop) [Decidable p] (h) :
    (⟨min (Scalar.select (IntOp.cmpi .slt (if _ : p then 0#32 else 0#32) 0#32)
      (IntOp.addi (if _ : p then 0#32 else 0#32) 1024#32) (if _ : p then 0#32 else 0#32)).toInt.toNat 1023, h⟩ : Fin 1024)
      = 0 := by
  apply Fin.ext
  show min _ 1023 = 0
  split <;> decide

variable (enc : FVec Ideal S4x1024x256 .f32) (pitch : FVec Ideal S4x2048x1 .f32)
  (beats : IVec S4x2048x1 32) (wp : FVec Ideal S1x256 .f32) (bp : FVec Ideal S256 .f32)
  (w : FVec Ideal S256x256 .f32) (bq : FVec Ideal S256 .f32) (emb : FVec Ideal S2x256 .f32)

/-- Entry `(b, f, d)` of the reference's result, where the loop left every place the first. -/
theorem entry (s : State Ideal) (h : s.main_v7_5 = fun _ => 0#32) (b : Fin 4) (f : Fin 2048) (d : Fin 256) :
    R_main_v75 (F := Ideal) s enc pitch beats wp bp w bq emb (ix3 b f d)
      = referenceEntry enc pitch beats wp bp w bq emb b f d := by
  pointwise [R_main_v75, h, Rows.encoder_row, Rows.beat_row]
  rw [own_sequence b, first_row]
  unfold referenceEntry beatRow
  refine congrArg₂ (· + ·) rfl (congrArg (· + _) (Finset.sum_congr rfl fun k _ => ?_))
  refine congrArg (· * _) (congrArg (_ + ·) ?_)
  exact code_reference f k _ (exponent_reference k)

end Cert.ReferenceIdeal.Output

end
-- ==== Proof.Precondition.lean ====
/- The precondition read as facts about the argument arrays' entries. -/
module

public import proofs.«01_k».proof.Pre_in_step
public import proofs.«01_k».proof.Proof.Code
public import Idealize.ShloMosaic.Lib.Pointwise

@[expose] public section

set_option maxRecDepth 16384

noncomputable section

open Idealize.ShloMosaic

namespace Cert.Pre_in_step

/-- The shape relations that the precondition's operations take hold. -/
instance facts : Facts where
  slices_S4x2048_S4x2047_0_1 := by decide
  slices_S4x1024_S4x1_0_0 := by decide
  bcast_S4x1_S4x2047_0_1 := by decide
  bcast_S_S4x2048x1 := by decide
  bcast_S_S256x256 := by decide
  slices_S2x256_S1x256_0_0 := by decide
  shapeCasts_S1x256_S256 := by decide
  bcast_S_S256 := by decide

/-- A truth value whose bit is one is true. -/
theorem true_of_bit (b : Bool) (h : BitVec.ofBool b = 1#1) : b = true := by
  revert h; cases b <;> decide

/-- Two words that compare equal are equal. -/
theorem eq_of_cmpi (x y : BitVec 32) (h : IntOp.cmpi .eq x y = 1#1) : x = y := by
  simpa using true_of_bit (x == y) h

/-- A word that compares equal to zero or to one is zero or one. -/
theorem zero_or_one (x : BitVec 32) (h : IntOp.ori (IntOp.cmpi .eq x 0#32) (IntOp.cmpi .eq x 1#32) = 1#1) :
    x = 0#32 ∨ x = 1#32 := by
  have h : BitVec.ofBool (x == 0#32) ||| BitVec.ofBool (x == 1#32) = 1#1 := h
  rw [BitVec.ofBool_or_ofBool] at h
  simpa using true_of_bit _ h

/-- A number whose absolute value compares below infinity is finite. -/
theorem finite_of_cmpf (x : EReal)
    (h : FloatOps.cmpf (F := Ideal) (φ := .f32) .olt (FloatOps.absf (F := Ideal) (φ := .f32) x) (Ideal.ofBits .f32 0x7F800000#32) = 1#1) :
    ∃ r : ℝ, x = (r : EReal) := by
  rw [Cert.FrameCode.ofBits_inf] at h
  have hlt : max x (-x) < ⊤ := of_decide_eq_true (true_of_bit _ h)
  have htop : x ≠ ⊤ := fun e => by simp [e] at hlt
  have hbot : x ≠ ⊥ := fun e => by simp [e] at hlt
  exact ⟨x.toReal, (EReal.coe_toReal htop hbot).symm⟩

variable (enc : FVec Ideal S4x1024x256 .f32) (pitch : FVec Ideal S4x2048x1 .f32) (beats : IVec S4x2048x1 32)
  (al : IVec S4x2048 32) (tx : IVec S4x1024 32) (wp : FVec Ideal S1x256 .f32) (bp : FVec Ideal S256 .f32)
  (w : FVec Ideal S256x256 .f32) (bq : FVec Ideal S256 .f32) (emb : FVec Ideal S2x256 .f32)

/-- Under the precondition's first result every frame after the first holds its sequence's first note. -/
theorem in_step (h : (fn enc pitch beats al tx wp bp w bq emb).1 = fun _ => 1#1) (b : Fin 4) (n : Fin 2047) :
    al (ix2 b ⟨1 + n, by omega⟩) = tx (ix2 b 0) := by
  have h := congrFun h (ix2 b n)
  pointwise [fn] at h
  exact eq_of_cmpi _ _ h

/-- Under its second result every beat is zero or one. -/
theorem beat (h : (fn enc pitch beats al tx wp bp w bq emb).2.1 = fun _ => 1#1) (b : Fin 4) (f : Fin 2048) :
    beats (ix3 b f 0) = 0#32 ∨ beats (ix3 b f 0) = 1#32 := by
  have h := congrFun h (ix3 b f 0)
  pointwise [fn] at h
  exact zero_or_one _ h

/-- Under its third result the projection is finite. -/
theorem projection (h : (fn enc pitch beats al tx wp bp w bq emb).2.2.1 = fun _ => 1#1) (k d : Fin 256) :
    ∃ r : ℝ, w (ix2 k d) = (r : EReal) := by
  have h := congrFun h (ix2 k d)
  exact finite_of_cmpf _ h

/-- Under its fourth result the first beat row is finite. -/
theorem first_beat (h : (fn enc pitch beats al tx wp bp w bq emb).2.2.2 = fun _ => 1#1) (d : Fin 256) :
    ∃ r : ℝ, emb (ix2 0 d) = (r : EReal) := by
  have h := congrFun h (ix1 d)
  pointwise [fn] at h
  exact finite_of_cmpf _ h

end Cert.Pre_in_step

end
-- ==== Proof.Equation.lean ====
/- The reference's result is the kernel's, where the precondition holds. -/
module

public import proofs.«01_k».proof.Proof.Array
public import proofs.«01_k».proof.Proof.Loop
public import proofs.«01_k».proof.Proof.Output
public import proofs.«01_k».proof.Proof.Precondition

@[expose] public section

set_option maxRecDepth 16384

noncomputable section

open Idealize.ShloMosaic

namespace Cert.Equation

open Cert.FrameCode

variable (enc : FVec Ideal ⟨3, ![4, 1024, 256]⟩ .f32) (pitch : FVec Ideal ⟨3, ![4, 2048, 1]⟩ .f32)
  (beats : IVec ⟨3, ![4, 2048, 1]⟩ 32) (al : IVec ⟨2, ![4, 2048]⟩ 32) (tx : IVec ⟨2, ![4, 1024]⟩ 32)
  (wp : FVec Ideal ⟨2, ![1, 256]⟩ .f32) (bp : FVec Ideal ⟨1, ![256]⟩ .f32) (w : FVec Ideal ⟨2, ![256, 256]⟩ .f32)
  (bq : FVec Ideal ⟨1, ![256]⟩ .f32) (emb : FVec Ideal ⟨2, ![2, 256]⟩ .f32)

/-- Under the precondition the array that the reference makes of its loop's last state holds the kernel's entry at every
    index. -/
theorem reference_result
    (h : (Cert.Pre_in_step.fn enc pitch beats al tx wp bp w bq emb).1 = (fun _ => 1#1)
      ∧ (Cert.Pre_in_step.fn enc pitch beats al tx wp bp w bq emb).2.1 = (fun _ => 1#1)
      ∧ (Cert.Pre_in_step.fn enc pitch beats al tx wp bp w bq emb).2.2.1 = (fun _ => 1#1)
      ∧ (Cert.Pre_in_step.fn enc pitch beats al tx wp bp w bq emb).2.2.2 = (fun _ => 1#1)) :
    Cert.ReferenceIdeal.Step.R_main_v75 (F := Ideal) (Cert.ReferenceIdeal.Loop.states al tx 2047) enc pitch beats wp bp w bq emb
      = fun y => kernelEntry enc pitch beats wp bp w bq emb (y 0) (y 1) (y 2) := by
  obtain ⟨hin, hbeat, hw, he⟩ := h
  have hs := (Cert.ReferenceIdeal.Loop.stays al tx (Cert.Pre_in_step.in_step enc pitch beats al tx wp bp w bq emb hin)
    2047 le_rfl).places
  funext y
  obtain ⟨b, f, d, rfl⟩ : ∃ (b : Fin 4) (f : Fin 2048) (d : Fin 256), y = ix3 b f d := ⟨y 0, y 1, y 2, (ix3_eta y).symm⟩
  exact (Cert.ReferenceIdeal.Output.entry enc pitch beats wp bp w bq emb _ hs b f d).trans
    (entries_agree enc pitch beats wp bp w bq emb
      (Cert.Pre_in_step.beat enc pitch beats al tx wp bp w bq emb hbeat)
      (Cert.Pre_in_step.projection enc pitch beats al tx wp bp w bq emb hw)
      (Cert.Pre_in_step.first_beat enc pitch beats al tx wp bp w bq emb he) b f d)

end Cert.Equation

end
-- ==== Proof.Trip.lean ====
/- The reference's run over the loop's states: one trip of the printed loop is one `step` of its state, so the run's result
   is made of state number 2047. -/
module

public import proofs.«01_k».proof.Proof.Loop
public import proofs.«01_k».proof.Proof.Gen.ReferenceIdeal.Run

@[expose] public section

set_option maxRecDepth 16384

noncomputable section

open Idealize.ShloMosaic Idealize.ShloMosaic.TcCoe Idealize.SL.Sem Idealize.ShloMosaic.StableHlo

namespace Cert.ReferenceIdeal.Trip

open Cert.ReferenceIdeal Cert.ReferenceIdeal.Gen Cert.ReferenceIdeal.Value
open Cert.ReferenceIdeal.Step (State step init)

/-- The loop's state in the buffers that carry it. -/
def stateOf (V : Valuation τ sig (Elt Ideal)) : State Ideal where
  main_v7_3 := V (Proc.devRef .tc main_v7_3)
  main_v7_4 := V (Proc.devRef .tc main_v7_4)
  main_v7_5 := V (Proc.devRef .tc main_v7_5)
  main_v7_0 := V (Proc.devRef .tc main_v7_0)
  main_v7_1 := V (Proc.devRef .tc main_v7_1)

/-- The buffers carry state `s` and the number `j` of the trip to come. -/
def Carries (V : Valuation τ sig (Elt Ideal)) (s : State Ideal) (j : ℕ) : Prop :=
  stateOf V = s ∧ V (Proc.devRef .tc main_v7_2) = constantI S_ 32 (BitVec.ofNat 32 j)

variable (V : Valuation τ sig (Elt Ideal)) (j : ℕ)
  (h : V (Proc.devRef .tc main_v7_2) = constantI S_ 32 (BitVec.ofNat 32 j))

include h

/-- The trip's new place. -/
theorem trip_place : step_main_v7_3 V = Step.b7 j (stateOf V) := by
  unfold step_main_v7_3 res_main_while0b_v80 res_main_while0b_v77
  rw [h]
  rfl

/-- The trip's new note. -/
theorem trip_note : step_main_v7_4 V = Step.b27 j (stateOf V) := by
  unfold step_main_v7_4 res_main_while0b_v80 res_main_while0b_v77 res_main_while0b_v81
  rw [h]
  rfl

/-- The places with the trip's own written in. -/
theorem trip_places : step_main_v7_5 V = Step.b30 j (stateOf V) := by
  unfold step_main_v7_5 res_main_while0b_v80 res_main_while0b_v77
  rw [h]
  rfl

/-- The number of the next trip. -/
theorem trip_number : step_main_v7_2 V = constantI S_ 32 (BitVec.ofNat 32 (j + 1)) := by
  unfold step_main_v7_2
  rw [h]
  funext i
  show BitVec.ofNat 32 j + 1#32 = BitVec.ofNat 32 (j + 1)
  rw [BitVec.ofNat_add]

/-- One trip of the printed loop is one `step`. -/
theorem trip : Carries (STEP V) (step j (stateOf V)) (j + 1) := by
  refine ⟨?_, (STEP_main_v7_2 V).trans (trip_number V j h)⟩
  unfold stateOf
  rw [STEP_main_v7_3, STEP_main_v7_4, STEP_main_v7_5, STEP_main_v7_0, STEP_main_v7_1, trip_place V j h, trip_note V j h,
    trip_places V j h]
  rfl

omit h

variable (m : (ℓ : Loc nD τ sig) → Buf (Elt Ideal) ℓ) (c : Dev nD)

set_option maxRecDepth 65536 in
/-- The operations before the loop leave the initial state and the number zero. -/
theorem start : Carries (entryContents preI m c)
    (init (m ((c.tc : Thread nD τ).loc main_arg4)) (m ((c.tc : Thread nD τ).loc main_arg3))) 0 := by
  unfold Carries stateOf
  constructor <;> (simp only [entryContents, afterL_cons, afterL_nil]; after_reads_simp) <;> rfl

/-- Before trip `k` the buffers carry state number `k`. -/
theorem carried : ∀ k, Carries (STEP^[k] (entryContents preI m c))
    (Loop.states (m ((c.tc : Thread nD τ).loc main_arg3)) (m ((c.tc : Thread nD τ).loc main_arg4)) k) k
  | 0 => start m c
  | k + 1 => by
    rw [Function.iterate_succ_apply']
    have hk := carried k
    have := trip _ k hk.2
    rw [hk.1] at this
    exact this

/-- The result that the operations after the loop make, of the state the buffers carry and the argument arrays. -/
theorem made (W : Valuation τ sig (Elt Ideal)) : out_main_v75 W = Step.R_main_v75 (stateOf W)
    (W (Proc.devRef .tc main_arg0)) (W (Proc.devRef .tc main_arg1)) (W (Proc.devRef .tc main_arg2))
    (W (Proc.devRef .tc main_arg5)) (W (Proc.devRef .tc main_arg6)) (W (Proc.devRef .tc main_arg7))
    (W (Proc.devRef .tc main_arg8)) (W (Proc.devRef .tc main_arg9)) := by
  unfold out_main_v75 Step.R_main_v75
  rfl

/-- The run's result, of state number 2047 and the argument arrays. -/
theorem result : out_main_v75 (STEP^[2047] (entryContents preI m c)) = Step.R_main_v75
    (Loop.states (m ((c.tc : Thread nD τ).loc main_arg3)) (m ((c.tc : Thread nD τ).loc main_arg4)) 2047)
    (m ((c.tc : Thread nD τ).loc main_arg0)) (m ((c.tc : Thread nD τ).loc main_arg1))
    (m ((c.tc : Thread nD τ).loc main_arg2)) (m ((c.tc : Thread nD τ).loc main_arg5))
    (m ((c.tc : Thread nD τ).loc main_arg6)) (m ((c.tc : Thread nD τ).loc main_arg7))
    (m ((c.tc : Thread nD τ).loc main_arg8)) (m ((c.tc : Thread nD τ).loc main_arg9)) := by
  rw [made, (carried m c 2047).1, iter_main_arg0, iter_main_arg1, iter_main_arg2, iter_main_arg5, iter_main_arg6,
    iter_main_arg7, iter_main_arg8, iter_main_arg9]

end Cert.ReferenceIdeal.Trip

end
-- ==== Proof.lean ====
module

public import proofs.«01_k».proof.Defs
public import proofs.«01_k».proof.Proof.Equation
public import proofs.«01_k».proof.Proof.Trip
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal.Run
public import Idealize.ShloMosaic.Lib.Quiescent

@[expose] public section

set_option maxRecDepth 16384

noncomputable section

namespace Cert.Proof

open Idealize.ShloMosaic Idealize.SL.Sem

/-- The reference runs with its arguments unchanged; it holds no semaphore, so every one reads zero at the end. -/
theorem reference_frame : Cert.quiescent_ReferenceIdeal (hReferenceIdeal := Cert.ReferenceIdeal.Gen.facts) := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- The kernel's folded exponent step is the float nearest the real that it is named. -/
theorem named_step : Cert.preserves_Kernel_KernelIdeal :=
  IdealRules.named_const.statement Cert.KernelIdeal.κ "log_step" .f32 _ _ rfl

/-- From memories that agree on the arguments and meet the precondition, the idealized kernel and the reference both end with
    the kernel's entries. -/
theorem results_agree : Cert.algebraic_KernelIdeal_ReferenceIdeal_pre_in_step
    (hKernelIdeal := Cert.KernelIdeal.Gen.facts) (hReferenceIdeal := Cert.ReferenceIdeal.Gen.facts)
    (hPre_in_step := Cert.Pre_in_step.facts) := by
  intro m g m' g' hpre hargs
  refine ⟨fun c => Cert.KernelIdeal.Array.result m c, ?_, ?_⟩
  · exact (θ_run Cert.KernelIdeal.defs _ _).mono
      (fun r h c => ⟨(h c).1.trans (Cert.KernelIdeal.Array.final m c), (h c).2⟩)
      (Cert.KernelIdeal.Value.run_blocks (F := Ideal) m g)
  · refine (θ_run Cert.ReferenceIdeal.defs _ _).mono
      (fun r h c => ⟨(h c).1.trans ((Cert.ReferenceIdeal.Trip.result m' c).trans ?_), (h c).2⟩)
      (Cert.ReferenceIdeal.Value.run (F := Ideal) m' g')
    obtain ⟨e0, e1, e2, e3, e4, e5, e6, e7, e8, e9⟩ := hargs c
    rw [e0, e1, e2, e3, e4, e5, e6, e7, e8, e9]
    exact Cert.Equation.reference_result _ _ _ _ _ _ _ _ _ _ (hpre c)

/-- Every claim of the certificate. -/
theorem claim : Cert.Claim :=
  ⟨Cert.Kernel.Gen.facts, Cert.KernelIdeal.Gen.facts, Cert.ReferenceIdeal.Gen.facts, Cert.Pre_in_step.facts,
    fun m ρ _ => Cert.Kernel.Gen.frame m ρ,
    fun m ρ _ => Cert.KernelIdeal.Gen.frame m ρ,
    fun m ρ _ => Cert.KernelIdeal.Gen.frame m ρ,
    reference_frame,
    fun m ρ _ => reference_frame m ρ trivial,
    named_step, results_agree⟩

end Cert.Proof

end
